-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x4x1024 : Shape := ⟨3, ![32, 4, 1024]⟩
abbrev S64x1024 : Shape := ⟨2, ![64, 1024]⟩
abbrev S64x512x1024 : Shape := ⟨3, ![64, 512, 1024]⟩
abbrev S64x1024x512 : Shape := ⟨3, ![64, 1024, 512]⟩
abbrev S512x1024 : Shape := ⟨2, ![512, 1024]⟩
abbrev S1024x512 : Shape := ⟨2, ![1024, 512]⟩
abbrev S128x1024 : Shape := ⟨2, ![128, 1024]⟩
abbrev S2x512x1024 : Shape := ⟨3, ![2, 512, 1024]⟩
abbrev S2x1024x512 : Shape := ⟨3, ![2, 1024, 512]⟩
abbrev S128x128 : Shape := ⟨2, ![128, 128]⟩
abbrev S128x64 : Shape := ⟨2, ![128, 64]⟩
abbrev S128 : Shape := ⟨1, ![128]⟩
abbrev S128x1 : Shape := ⟨2, ![128, 1]⟩
abbrev S128x512 : Shape := ⟨2, ![128, 512]⟩
abbrev S1x512x1024 : Shape := ⟨3, ![1, 512, 1024]⟩
abbrev S1x1024x512 : Shape := ⟨3, ![1, 1024, 512]⟩

abbrev nBuf : Space → Nat
  | .hbm => 11
  | .vmem => 14
  | .smem => 0
  | _ => 0

abbrev bufTy : (tb : Table) → Fin (tcTables nBuf tb) → BufTy
  | .hbm, ⟨0, _⟩ => ⟨S32x4x1024, .f32⟩
  | .hbm, ⟨1, _⟩ => ⟨S64x1024, .f32⟩
  | .hbm, ⟨2, _⟩ => ⟨S64x512x1024, .f32⟩
  | .hbm, ⟨3, _⟩ => ⟨S64x512x1024, .f32⟩
  | .hbm, ⟨4, _⟩ => ⟨S64x1024x512, .f32⟩
  | .hbm, ⟨5, _⟩ => ⟨S512x1024, .f32⟩
  | .hbm, ⟨6, _⟩ => ⟨S512x1024, .f32⟩
  | .hbm, ⟨7, _⟩ => ⟨S1024x512, .f32⟩
  | .hbm, ⟨8, _⟩ => ⟨S128x1024, .f32⟩
  | .hbm, ⟨9, _⟩ => ⟨S128x1024, .f32⟩
  | .hbm, ⟨10, _⟩ => ⟨S32x4x1024, .f32⟩
  | .local _ .vmem, ⟨0, _⟩ => ⟨S128x1024, .f32⟩
  | .local _ .vmem, ⟨1, _⟩ => ⟨S64x1024, .f32⟩
  | .local _ .vmem, ⟨2, _⟩ => ⟨S512x1024, .f32⟩
  | .local _ .vmem, ⟨3, _⟩ => ⟨S512x1024, .f32⟩
  | .local _ .vmem, ⟨4, _⟩ => ⟨S1024x512, .f32⟩
  | .local _ .vmem, ⟨5, _⟩ => ⟨S2x512x1024, .f32⟩
  | .local _ .vmem, ⟨6, _⟩ => ⟨S2x512x1024, .f32⟩
  | .local _ .vmem, ⟨7, _⟩ => ⟨S2x512x1024, .f32⟩
  | .local _ .vmem, ⟨8, _⟩ => ⟨S2x512x1024, .f32⟩
  | .local _ .vmem, ⟨9, _⟩ => ⟨S2x1024x512, .f32⟩
  | .local _ .vmem, ⟨10, _⟩ => ⟨S2x1024x512, .f32⟩
  | .local _ .vmem, ⟨11, _⟩ => ⟨S128x1024, .f32⟩
  | .local _ .vmem, ⟨12, _⟩ => ⟨S128x128, .i32⟩
  | .local _ .vmem, ⟨13, _⟩ => ⟨S128x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S32x4x1024 : Shape := ⟨3, ![32, 4, 1024]⟩
abbrev S64x1024 : Shape := ⟨2, ![64, 1024]⟩
abbrev S64x512x1024 : Shape := ⟨3, ![64, 512, 1024]⟩
abbrev S64x1024x512 : Shape := ⟨3, ![64, 1024, 512]⟩
abbrev S512x1024 : Shape := ⟨2, ![512, 1024]⟩
abbrev S1024x512 : Shape := ⟨2, ![1024, 512]⟩
abbrev S32x4x512 : Shape := ⟨3, ![32, 4, 512]⟩
abbrev S_ : Shape := ⟨0, ![]⟩
abbrev S128x1024 : Shape := ⟨2, ![128, 1024]⟩
abbrev S1024x64 : Shape := ⟨2, ![1024, 64]⟩
abbrev S128x64 : Shape := ⟨2, ![128, 64]⟩
abbrev S128 : Shape := ⟨1, ![128]⟩
abbrev S128x1 : Shape := ⟨2, ![128, 1]⟩
abbrev S128x2 : Shape := ⟨2, ![128, 2]⟩
abbrev S128x2x1 : Shape := ⟨3, ![128, 2, 1]⟩
abbrev S128x2x2 : Shape := ⟨3, ![128, 2, 2]⟩
abbrev S128x64x512 : Shape := ⟨3, ![128, 64, 512]⟩
abbrev S64x1024x128 : Shape := ⟨3, ![64, 1024, 128]⟩
abbrev S128x64x1024 : Shape := ⟨3, ![128, 64, 1024]⟩

abbrev nBuf : Space → Nat
  | .hbm => 88
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S64x1024, .f32⟩
  | .hbm, ⟨2, _⟩ => ⟨S64x512x1024, .f32⟩
  | .hbm, ⟨3, _⟩ => ⟨S64x512x1024, .f32⟩
  | .hbm, ⟨4, _⟩ => ⟨S64x1024x512, .f32⟩
  | .hbm, ⟨5, _⟩ => ⟨S512x1024, .f32⟩
  | .hbm, ⟨6, _⟩ => ⟨S512x1024, .f32⟩
  | .hbm, ⟨7, _⟩ => ⟨S1024x512, .f32⟩
  | .hbm, ⟨8, _⟩ => ⟨S1024x512, .f32⟩
  | .hbm, ⟨9, _⟩ => ⟨S32x4x512, .f32⟩
  | .hbm, ⟨10, _⟩ => ⟨S32x4x512, .f32⟩
  | .hbm, ⟨11, _⟩ => ⟨S32x4x512, .f32⟩
  | .hbm, ⟨12, _⟩ => ⟨S_, .f32⟩
  | .hbm, ⟨13, _⟩ => ⟨S32x4x512, .f32⟩
  | .hbm, ⟨14, _⟩ => ⟨S32x4x512, .f32⟩
  | .hbm, ⟨15, _⟩ => ⟨S_, .f32⟩
  | .hbm, ⟨16, _⟩ => ⟨S32x4x512, .f32⟩
  | .hbm, ⟨17, _⟩ => ⟨S32x4x512, .f32⟩
  | .hbm, ⟨18, _⟩ => ⟨S32x4x512, .f32⟩
  | .hbm, ⟨19, _⟩ => ⟨S1024x512, .f32⟩
  | .hbm, ⟨20, _⟩ => ⟨S32x4x512, .f32⟩
  | .hbm, ⟨21, _⟩ => ⟨S32x4x512, .f32⟩
  | .hbm, ⟨22, _⟩ => ⟨S512x1024, .f32⟩
  | .hbm, ⟨23, _⟩ => ⟨S32x4x1024, .f32⟩
  | .hbm, ⟨24, _⟩ => ⟨S128x1024, .f32⟩
  | .hbm, ⟨25, _⟩ => ⟨S1024x64, .f32⟩
  | .hbm, ⟨26, _⟩ => ⟨S128x64, .f32⟩
  | .hbm, ⟨27, _⟩ => ⟨S_, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128x1, .f32⟩
  | .hbm, ⟨33, _⟩ => ⟨S128x64, .f32⟩
  | .hbm, ⟨34, _⟩ => ⟨S128x64, .f32⟩
  | .hbm, ⟨35, _⟩ => ⟨S128x64, .f32⟩
  | .hbm, ⟨36, _⟩ => ⟨S_, .f32⟩
  | .hbm, ⟨37, _⟩ => ⟨S128, .f32⟩
  | .hbm, ⟨38, _⟩ => ⟨S128x1, .f32⟩
  | .hbm, ⟨39, _⟩ => ⟨S128x64, .f32⟩
  | .hbm, ⟨40, _⟩ => ⟨S128x64, .f32⟩
  | .hbm, ⟨41, _⟩ => ⟨S128x2, .f32⟩
  | .hbm, ⟨42, _⟩ => ⟨S128x2, .i32⟩
  | .hbm, ⟨43, _⟩ => ⟨S_, .f32⟩
  | .hbm, ⟨44, _⟩ => ⟨S128, .f32⟩
  | .hbm, ⟨45, _⟩ => ⟨S128x1, .f32⟩
  | .hbm, ⟨46, _⟩ => ⟨S128x2, .f32⟩
  | .hbm, ⟨47, _⟩ => ⟨S128x2, .f32⟩
  | .hbm, ⟨48, _⟩ => ⟨S_, .f32⟩
  | .hbm, ⟨49, _⟩ => ⟨S128x64, .f32⟩
  | .hbm, ⟨50, _⟩ => ⟨S128, .i32⟩
  | .hbm, ⟨51, _⟩ => ⟨S128x1, .i32⟩
  | .hbm, ⟨52, _⟩ => ⟨S_, .i32⟩
  | .hbm, ⟨53, _⟩ => ⟨S128x1, .i32⟩
  | .hbm, ⟨54, _⟩ => ⟨S128x1, .i1⟩
  | .hbm, ⟨55, _⟩ => ⟨S_, .i32⟩
  | .hbm, ⟨56, _⟩ => ⟨S128x1, .i32⟩
  | .hbm, ⟨57, _⟩ => ⟨S128x1, .i32⟩
  | .hbm, ⟨58, _⟩ => ⟨S128x1, .i32⟩
  | .hbm, ⟨59, _⟩ => ⟨S_, .i32⟩
  | .hbm, ⟨60, _⟩ => ⟨S128x2, .i32⟩
  | .hbm, ⟨61, _⟩ => ⟨S128x2, .i1⟩
  | .hbm, ⟨62, _⟩ => ⟨S_, .i32⟩
  | .hbm, ⟨63, _⟩ => ⟨S128x2, .i32⟩
  | .hbm, ⟨64, _⟩ => ⟨S128x2, .i32⟩
  | .hbm, ⟨65, _⟩ => ⟨S128x2, .i32⟩
  | .hbm, ⟨66, _⟩ => ⟨S128x2, .i32⟩
  | .hbm, ⟨67, _⟩ => ⟨S128x2x1, .i32⟩
  | .hbm, ⟨68, _⟩ => ⟨S128x2x1, .i32⟩
  | .hbm, ⟨69, _⟩ => ⟨S128x2x2, .i32⟩
  | .hbm, ⟨70, _⟩ => ⟨S128x64, .f32⟩
  | .hbm, ⟨71, _⟩ => ⟨S128x64x512, .f32⟩
  | .hbm, ⟨72, _⟩ => ⟨S128x64x512, .f32⟩
  | .hbm, ⟨73, _⟩ => ⟨S128x64x512, .f32⟩
  | .hbm, ⟨74, _⟩ => ⟨S128x64x512, .f32⟩
  | .hbm, ⟨75, _⟩ => ⟨S_, .f32⟩
  | .hbm, ⟨76, _⟩ => ⟨S128x64x512, .f32⟩
  | .hbm, ⟨77, _⟩ => ⟨S128x64x512, .f32⟩
  | .hbm, ⟨78, _⟩ => ⟨S_, .f32⟩
  | .hbm, ⟨79, _⟩ => ⟨S128x64x512, .f32⟩
  | .hbm, ⟨80, _⟩ => ⟨S128x64x512, .f32⟩
  | .hbm, ⟨81, _⟩ => ⟨S128x64x512, .f32⟩
  | .hbm, ⟨82, _⟩ => ⟨S128x64x512, .f32⟩
  | .hbm, ⟨83, _⟩ => ⟨S64x1024x128, .f32⟩
  | .hbm, ⟨84, _⟩ => ⟨S128x64x1024, .f32⟩
  | .hbm, ⟨85, _⟩ => ⟨S128x1024, .f32⟩
  | .hbm, ⟨86, _⟩ => ⟨S32x4x1024, .f32⟩
  | .hbm, ⟨87, _⟩ => ⟨S32x4x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_values : Ref sig .tc := ⟨.hbm, 41, rfl⟩
abbrev main_indices : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c : Ref sig .tc := ⟨.hbm, 52, rfl⟩
abbrev main_v29 : Ref sig .tc := ⟨.hbm, 53, rfl⟩
abbrev main_v30 : Ref sig .tc := ⟨.hbm, 54, rfl⟩
abbrev main_c_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pipeline.ValueKit
public import Idealize.ShloMosaic.Lib.Pipeline.ReadBack
public import Idealize.ShloMosaic.Lib.VecWindow
public import Idealize.ShloMosaic.Lib.WholeRead

/-! What one grid point of the kernel does to its buffers.  The first point computes the router's choices and
the shared layer; every point adds its two experts' weighted products to the output block. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinate: whether this is the first point. -/
abbrev cond0_0 (i : grid0.Coords) : Prop := (Scalar.cmpi .ne (Scalar.extui (Scalar.cmpi .eq (BitVec.ofNat 32 (i 0).val) 0#32)) 0#32) = 1#1

/-- The first two columns of a scratch block. -/
abbrev col0 : Rect S128x128 := Rect.unit ![0, 0] S128x1.size inb_S128x128_S128x1_0_0
abbrev col1 : Rect S128x128 := Rect.unit ![0, 1] S128x1.size inb_S128x128_S128x1_0_1
/-- The two experts of a block of gate or up weights, and of a block of down weights. -/
abbrev ex0 : Rect S2x512x1024 := Rect.unit ![0, 0, 0] S1x512x1024.size inb_S2x512x1024_S1x512x1024_0_0_0
abbrev ex1 : Rect S2x512x1024 := Rect.unit ![1, 0, 0] S1x512x1024.size inb_S2x512x1024_S1x512x1024_1_0_0
abbrev exd0 : Rect S2x1024x512 := Rect.unit ![0, 0, 0] S1x1024x512.size inb_S2x1024x512_S1x1024x512_0_0_0
abbrev exd1 : Rect S2x1024x512 := Rect.unit ![1, 0, 0] S1x1024x512.size inb_S2x1024x512_S1x1024x512_1_0_0

/-- The output block after a point, from the block `o` before it, the point's inputs and the two chosen experts
    (`c0`, `c1`) with their weights (`w0`, `w1`). -/
def stepOut (i : grid0.Coords) (x : Vec F S128x1024 .f32) (g u : Vec F S2x512x1024 .f32) (d : Vec F S2x1024x512 .f32)
    (c0 c1 : Vec F S128x1 .i32) (w0 w1 : Vec F S128x1 .f32) (o : Vec F S128x1024 .f32) : Vec F S128x1024 .f32 :=
  k0_pay1
    (k0_pay18 k0_pay15 (Scalar.addi (Scalar.muli (BitVec.ofNat 32 (i 0).val) 2#32) 0#32)
      (k0_pay16 x (View.ld g ex0) (View.ld u ex0) (View.ld d exd0)) (k0_pay17 i c0 w0) c1 w1)
    (k0_pay19 (k0_pay14 x) (View.ld g ex1) (View.ld u ex1) (View.ld d exd1))
    (k0_pay20 (BitVec.ofNat 32 (i 0).val) c0 w0)
    (k0_pay21 (BitVec.ofNat 32 (i 0).val) c1) w1 o

/-- The router's first and second weight of every token. -/
abbrev wt0 (x : Vec F S128x1024 .f32) (wg : Vec F S64x1024 .f32) : Vec F S128x1 .f32 := k0_pay11 (k0_pay4 x wg) (k0_pay8 x wg)
abbrev wt1 (x : Vec F S128x1024 .f32) (wg : Vec F S64x1024 .f32) : Vec F S128x1 .f32 := k0_pay12 (k0_pay7 x wg) (k0_pay8 x wg)
/-- The shared layer's output. -/
abbrev shared (x : Vec F S128x1024 .f32) (g u : Vec F S512x1024 .f32) (d : Vec F S1024x512 .f32) : Vec F S128x1024 .f32 :=
  k0_pay13 (k0_pay2 x) g u d

/-- The scratch blocks hold the choices and the weights in their first two columns. -/
def Held (d0 : Vec F S128x128 .i32) (d1 : Vec F S128x128 .f32) (c0 c1 : Vec F S128x1 .i32) (w0 w1 : Vec F S128x1 .f32) : Prop :=
  (View.ld d0 col0 = c0 ∧ View.ld d0 col1 = c1) ∧ (View.ld d1 col0 = w0 ∧ View.ld d1 col1 = w1)

/-- A load of a rectangle of a whole buffer reads that rectangle of its contents. -/
theorem readAt_rect {κ : Kind} {sp : Space} {s : Shape} {e : EltTy} {m : Memref sig κ sp s e} (h : m.IsWhole) (X : s.Idx → Elt F e) (r : Rect s) :
    View.readAt (Elt F) m.view r.toLoadRect (h.unread X) = View.ld X r :=
  funext fun x => h.readAt_unread X r.toLoadRect x

/-- Column one, then column zero, of a block into whose column zero and then column one something was stored. -/
theorem ld_col1 {e : EltTy} {κ : Kind} {sp : Space} (v : View sig κ sp S128x128 e) (f : v.ty.Contents (Elt F)) (a b : S128x1.Idx → Elt F e) :
    View.ld (View.read (Elt F) v (View.writes v (Elt F) f [⟨col1, b⟩, ⟨col0, a⟩])) col1 = b :=
  funext fun x => View.read_writes_cons_emb v f col1 b [⟨col0, a⟩] x
theorem ld_col0 {e : EltTy} {κ : Kind} {sp : Space} (v : View sig κ sp S128x128 e) (f : v.ty.Contents (Elt F)) (a b : S128x1.Idx → Elt F e) :
    View.ld (View.read (Elt F) v (View.writes v (Elt F) f [⟨col1, b⟩, ⟨col0, a⟩])) col0 = a :=
  funext fun x => by
    refine (View.read_writes_cons_unit_of_not_mem v f inb_S128x128_S128x1_0_1 b [⟨col0, a⟩] (col0.idx x) rfl 1 (Or.inl ?_)).trans
      (View.read_writes_cons_emb v f col0 a [] x)
    have h : (x 1).val < 1 := (x 1).isLt
    show 0 + 1 * (x 1).val < 1
    omega
theorem cov_col1 {e : EltTy} {κ : Kind} {sp : Space} (v : View sig κ sp S128x128 e) (a b : S128x1.Idx → Elt F e) :
    v.readCov (Val := Elt F) [⟨col1, b⟩, ⟨col0, a⟩] col1.toLoadRect = b := ld_col1 v v.junk a b
theorem cov_col0 {e : EltTy} {κ : Kind} {sp : Space} (v : View sig κ sp S128x128 e) (a b : S128x1.Idx → Elt F e) :
    v.readCov (Val := Elt F) [⟨col1, b⟩, ⟨col0, a⟩] col0.toLoadRect = a := ld_col0 v v.junk a b

set_option maxHeartbeats 1000000 in
/-- The first point: whatever the output block and the scratch held, the scratch ends with the router's choices and the output block with the first step over the shared layer. -/
theorem bodyFirst (c : Dev nD) (i : grid0.Coords) (arg1 : Memref sig .tc .vmem S128x1024 .f32) (harg1 : arg1.IsWhole) (arg2 : Memref sig .tc .vmem S64x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S2x512x1024 .f32) (harg6 : arg6.IsWhole) (arg7 : Memref sig .tc .vmem S2x512x1024 .f32) (harg7 : arg7.IsWhole) (arg8 : Memref sig .tc .vmem S2x1024x512 .f32) (harg8 : arg8.IsWhole) (arg9 : Memref sig .tc .vmem S128x1024 .f32) (harg9 : arg9.IsWhole) (arg10 : Memref sig .tc .vmem S128x128 .i32) (harg10 : arg10.IsWhole) (arg11 : Memref sig .tc .vmem S128x128 .f32) (harg11 : arg11.IsWhole) (hc0 : cond0_0 i)
    (x0 : Vec F S128x1024 .f32) (x1 : Vec F S64x1024 .f32) (x2 : Vec F S512x1024 .f32) (x3 : Vec F S512x1024 .f32) (x4 : Vec F S1024x512 .f32) (x5 : Vec F S2x512x1024 .f32) (x6 : Vec F S2x512x1024 .f32) (x7 : Vec F S2x1024x512 .f32) (E : Set ℕ) (K : PUnit → sProp 𝕄) :
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
    ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (stepOut i x0 x5 x6 x7 (k0_pay9 x0 x1) (k0_pay10 x0 x1) (wt0 x0 x1) (wt1 x0 x1) (shared x0 x2 x3 x4)) ∗ (∃ d0 d1, ⌜Held d0 d1 (k0_pay9 x0 x1) (k0_pay10 x0 x1) (wt0 x0 x1) (wt1 x0 x1)⌝ ∗ owns (c : Thread nD τ) arg10 fullShare d0 ∗ owns (c : Thread nD τ) arg11 fullShare d1)) -∗ K ⟨⟩))
  ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
    simp only [cc0__body_eq_skeleton]; unfold cc0__body_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%ds0, %fs0, %hs0, HS0⟩, ⟨%ds1, %fs1, %hs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    obtain rfl := harg9.eq_unread hf8; obtain rfl := harg10.eq_unread hs0; obtain rfl := harg11.eq_unread hs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro
      rw [View.read_writes_full]
      frame_open
      rw [readAt_rect harg1, readAt_rect harg2, readAt_rect harg3, readAt_rect harg4, readAt_rect harg5, readAt_rect harg6, readAt_rect harg6, readAt_rect harg7, readAt_rect harg7, readAt_rect harg8, readAt_rect harg8]
      simp (disch := decide) only [View.readCov_unit_lit', View.ld_unit_lit']
      rw [cov_col0 arg10.view, cov_col1 arg10.view, cov_col0 arg11.view, cov_col1 arg11.view]
      rfl
    iexists _, _; isplitr; swap
    · isplitl [HS0]
      · iexists _; isplitr; swap; · iexact HS0
        ipureintro; rfl
      iexists _; isplitr; swap; · iexact HS1
      ipureintro; rfl
    ipureintro
    frame_open
    refine ⟨⟨(ld_col0 _ _ _ _).trans ?_, (ld_col1 _ _ _ _).trans ?_⟩, ⟨(ld_col0 _ _ _ _).trans ?_, (ld_col1 _ _ _ _).trans ?_⟩⟩
    all_goals
      rw [readAt_rect harg1, readAt_rect harg2]
      simp (disch := decide) only [View.ld_unit_lit']

set_option maxHeartbeats 1000000 in
/-- A later point: with the choices and weights in the scratch, one step is added to the output block. -/
theorem bodyLater (c : Dev nD) (i : grid0.Coords) (arg1 : Memref sig .tc .vmem S128x1024 .f32) (harg1 : arg1.IsWhole) (arg2 : Memref sig .tc .vmem S64x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S2x512x1024 .f32) (harg6 : arg6.IsWhole) (arg7 : Memref sig .tc .vmem S2x512x1024 .f32) (harg7 : arg7.IsWhole) (arg8 : Memref sig .tc .vmem S2x1024x512 .f32) (harg8 : arg8.IsWhole) (arg9 : Memref sig .tc .vmem S128x1024 .f32) (harg9 : arg9.IsWhole) (arg10 : Memref sig .tc .vmem S128x128 .i32) (harg10 : arg10.IsWhole) (arg11 : Memref sig .tc .vmem S128x128 .f32) (harg11 : arg11.IsWhole) (hc0 : ¬cond0_0 i)
    (x0 : Vec F S128x1024 .f32) (x1 : Vec F S64x1024 .f32) (x2 : Vec F S512x1024 .f32) (x3 : Vec F S512x1024 .f32) (x4 : Vec F S1024x512 .f32) (x5 : Vec F S2x512x1024 .f32) (x6 : Vec F S2x512x1024 .f32) (x7 : Vec F S2x1024x512 .f32) (c0 c1 : Vec F S128x1 .i32) (w0 w1 : Vec F S128x1 .f32) (o : Vec F S128x1024 .f32) (E : Set ℕ) (K : PUnit → sProp 𝕄) :
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare o ∗ (∃ d0 d1, ⌜Held d0 d1 c0 c1 w0 w1⌝ ∗ owns (c : Thread nD τ) arg10 fullShare d0 ∗ owns (c : Thread nD τ) arg11 fullShare d1)
    ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (stepOut i x0 x5 x6 x7 c0 c1 w0 w1 o) ∗ (∃ d0 d1, ⌜Held d0 d1 c0 c1 w0 w1⌝ ∗ owns (c : Thread nD τ) arg10 fullShare d0 ∗ owns (c : Thread nD τ) arg11 fullShare d1)) -∗ K ⟨⟩))
  ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
    simp only [cc0__body_eq_skeleton]; unfold cc0__body_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%s0, %s1, %hH, ⟨%fs0, %hs0, HS0⟩, ⟨%fs1, %hs1, HS1⟩⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    obtain rfl := harg9.eq_unread hf8; obtain rfl := harg10.eq_unread hs0; obtain rfl := harg11.eq_unread hs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro
      rw [View.read_writes_full]
      obtain ⟨⟨rfl, rfl⟩, ⟨rfl, rfl⟩⟩ := hH
      frame_open
      simp (disch := decide) only [readAt_rect, View.ld_unit_lit']
      rfl
    iexists _, _; isplitr; swap
    · isplitl [HS0]
      · iexists _; isplitr; swap; · iexact HS0
        ipureintro; exact harg10.read_unread _
      iexists _; isplitr; swap; · iexact HS1
      ipureintro; exact harg11.read_unread _
    ipureintro; exact hH

end Cert.KernelIdeal.Gen

end
-- ==== Proof.Run.lean ====
module

public import proofs.«01_k».proof.Proof.Body
public import Idealize.ShloMosaic.Lib.Claim

/-! The kernel's run: the output block as it grows from point to point, what the scratch carries between points,
and the run of the whole program with every array's final contents. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition in closed form. -/
theorem isFirst : ∀ t : Fin cfg0.N, cond0_0 (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp : ∀ t : Fin grid0.N, cond0_0 (grid0.coords t) ↔ t.val = 0)

/-- The grid point of a number. -/
def pt (n : ℕ) : Fin cfg0.N := ⟨n % 32, Nat.lt_of_lt_of_eq (Nat.mod_lt n (by decide)) N_0.symm⟩
theorem pt_val (t : Fin cfg0.N) : pt t.val = t :=
  Fin.ext (Nat.mod_eq_of_lt (Nat.lt_of_lt_of_eq t.isLt N_0))
theorem val_pt {n : ℕ} (h : n < 32) : (pt n).val = n := Nat.mod_eq_of_lt h

/-! The blocks the points read, at their shapes. -/
abbrev bX (c : Dev nD) (t : Fin cfg0.N) : Vec F S128x1024 .f32 := iblk m c 0 t
abbrev bWg (c : Dev nD) (t : Fin cfg0.N) : Vec F S64x1024 .f32 := iblk m c 1 t
abbrev bSg (c : Dev nD) (t : Fin cfg0.N) : Vec F S512x1024 .f32 := iblk m c 2 t
abbrev bSu (c : Dev nD) (t : Fin cfg0.N) : Vec F S512x1024 .f32 := iblk m c 3 t
abbrev bSd (c : Dev nD) (t : Fin cfg0.N) : Vec F S1024x512 .f32 := iblk m c 4 t
abbrev bG (c : Dev nD) (t : Fin cfg0.N) : Vec F S2x512x1024 .f32 := iblk m c 5 t
abbrev bU (c : Dev nD) (t : Fin cfg0.N) : Vec F S2x512x1024 .f32 := iblk m c 6 t
abbrev bD (c : Dev nD) (t : Fin cfg0.N) : Vec F S2x1024x512 .f32 := iblk m c 7 t

/-! The router's choices and weights, from the first point's blocks. -/
def ch0 (c : Dev nD) : Vec F S128x1 .i32 := k0_pay9 (bX m c (pt 0)) (bWg m c (pt 0))
def ch1 (c : Dev nD) : Vec F S128x1 .i32 := k0_pay10 (bX m c (pt 0)) (bWg m c (pt 0))
def chW0 (c : Dev nD) : Vec F S128x1 .f32 := wt0 (bX m c (pt 0)) (bWg m c (pt 0))
def chW1 (c : Dev nD) : Vec F S128x1 .f32 := wt1 (bX m c (pt 0)) (bWg m c (pt 0))

/-- One point's step on the output block. -/
def stepAt (c : Dev nD) (t : Fin cfg0.N) (o : Vec F S128x1024 .f32) : Vec F S128x1024 .f32 :=
  stepOut (grid0.coords t) (bX m c t) (bG m c t) (bU m c t) (bD m c t) (ch0 m c) (ch1 m c) (chW0 m c) (chW1 m c) o

/-- The output block after point `n`. -/
def accAt (c : Dev nD) : ℕ → Vec F S128x1024 .f32
  | 0 => stepAt m c (pt 0) (shared (bX m c (pt 0)) (bSg m c (pt 0)) (bSu m c (pt 0)) (bSd m c (pt 0)))
  | n + 1 => stepAt m c (pt (n + 1)) (accAt c n)

/-- The kernel's two scratch buffers. -/
abbrev scr0 : Memref sig .tc .vmem S128x128 .i32 := Memref.whole cc0_scratch0
abbrev scr1 : Memref sig .tc .vmem S128x128 .f32 := Memref.whole cc0_scratch1

/-- What the scratch is known to hold between points. -/
def carried (c : Dev nD) : sProp 𝕄 :=
  iprop((∃ d0 d1, ⌜Held d0 d1 (ch0 m c) (ch1 m c) (chW0 m c) (chW1 m c)⌝ ∗ owns (c : Thread nD τ) scr0 fullShare d0 ∗ owns (c : Thread nD τ) scr1 fullShare d1)
    ∗ (∃ r, prngReg c r))

theorem scratch_some (c : Dev nD) : (Pipeline.ΦA spec0 c : sProp 𝕄)
    = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The proof data: each input block stays in place, the output block is the accumulated one, and the scratch is
    known after the first point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => accAt m c t.val
  Φ k := if k.val = 0 then Pipeline.ΦA spec0 c else carried m c
  q _ := fullShare
  owed _ := 0

theorem dats_A (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = iblk m c 7 t := by dsimp only [dats]
theorem left8 (c : Dev nD) (t : Fin cfg0.N) : (dats m 0 c).after 8 t = accAt m c t.val := by dsimp only [dats]
theorem found0 (c : Dev nD) (t : Fin cfg0.N) (d) : (dats m 0 c).before 0 t d = iblk m c 0 t :=
  before0_0_of m (dats m 0 c) (dats_A m c 0) (left0 m c) t d
theorem found1 (c : Dev nD) (t : Fin cfg0.N) (d) : (dats m 0 c).before 1 t d = iblk m c 1 t :=
  before0_1_of m (dats m 0 c) (dats_A m c 1) (left1 m c) t d
theorem found2 (c : Dev nD) (t : Fin cfg0.N) (d) : (dats m 0 c).before 2 t d = iblk m c 2 t :=
  before0_2_of m (dats m 0 c) (dats_A m c 2) (left2 m c) t d
theorem found3 (c : Dev nD) (t : Fin cfg0.N) (d) : (dats m 0 c).before 3 t d = iblk m c 3 t :=
  before0_3_of m (dats m 0 c) (dats_A m c 3) (left3 m c) t d
theorem found4 (c : Dev nD) (t : Fin cfg0.N) (d) : (dats m 0 c).before 4 t d = iblk m c 4 t :=
  before0_4_of m (dats m 0 c) (dats_A m c 4) (left4 m c) t d
theorem found5 (c : Dev nD) (t : Fin cfg0.N) (d) : (dats m 0 c).before 5 t d = iblk m c 5 t :=
  before0_5_of m (dats m 0 c) (dats_A m c 5) (left5 m c) t d
theorem found6 (c : Dev nD) (t : Fin cfg0.N) (d) : (dats m 0 c).before 6 t d = iblk m c 6 t :=
  before0_6_of m (dats m 0 c) (dats_A m c 6) (left6 m c) t d
theorem found7 (c : Dev nD) (t : Fin cfg0.N) (d) : (dats m 0 c).before 7 t d = iblk m c 7 t :=
  before0_7_of m (dats m 0 c) (dats_A m c 7) (left7 m c) t d
/-- After the first point the output block is found as the point before left it. -/
theorem found8 (c : Dev nD) (t : Fin cfg0.N) (ht : t.val ≠ 0) (d) : (dats m 0 c).before 8 t d = accAt m c (t.val - 1) :=
  ((dats m 0 c).before_out_kept 8 rfl t ht
    (Bool.eq_false_iff.mpr fun h => by
      have h1 := (flush0_8 _).mp h
      have h2 : t.val < 32 := Nat.lt_of_lt_of_eq t.isLt N_0
      simp only at h1
      omega)
    (fun _ => rfl) (fun _ _ => rfl) d).trans (left8 m c _)

theorem accAt_first (c : Dev nD) (t : Fin cfg0.N) (h : t.val = 0) :
    accAt m c t.val = stepOut (grid0.coords t) (bX m c t) (bG m c t) (bU m c t) (bD m c t)
      (k0_pay9 (bX m c t) (bWg m c t)) (k0_pay10 (bX m c t) (bWg m c t)) (wt0 (bX m c t) (bWg m c t)) (wt1 (bX m c t) (bWg m c t))
      (shared (bX m c t) (bSg m c t) (bSu m c t) (bSd m c t)) := by
  have e : pt 0 = t := h ▸ pt_val t
  subst e
  rw [h]; rfl

theorem accAt_later (c : Dev nD) (t : Fin cfg0.N) (h : t.val ≠ 0) :
    accAt m c t.val = stepAt m c t (accAt m c (t.val - 1)) := by
  obtain ⟨n, hn⟩ := Nat.exists_eq_succ_of_ne_zero h
  have e : pt (n + 1) = t := by rw [← Nat.succ_eq_add_one, ← hn]; exact pt_val t
  rw [hn]
  show stepAt m c (pt (n + 1)) (accAt m c n) = _
  rw [e]; rfl

/-- What the body is called with at point `t`, the windows one by one, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7]
  rw [show (dats m 0 c).owesAt () t.succ = (dats m 0 c).owesAt () t.castSucc from rfl,
    left0, left1, left2, left3, left4, left5, left6, left7, left8]
  rw [show (dats m 0 c).Φ t.succ = carried m c from by
    dsimp only [dats]; exact if_neg (Nat.succ_ne_zero t.val)]
  by_cases h0 : t.val = 0
  · rw [show (dats m 0 c).Φ t.castSucc = Pipeline.ΦA spec0 c from by
      dsimp only [dats]; exact if_pos h0, scratch_some, accAt_first m c t h0]
    have e : pt 0 = t := h0 ▸ pt_val t
    unfold carried ch0 ch1 chW0 chW1
    rw [e]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bodyFirst c (grid0.coords t) _ _ _ _ _ _ _ _ _ _ _ _ _ _ _ _ _ _ _ _ _ _ ((isFirst t).mpr h0) (bX m c t) (bWg m c t) (bSg m c t) (bSu m c t) (bSd m c t) (bG m c t) (bU m c t) (bD m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [show (dats m 0 c).Φ t.castSucc = carried m c from by
      dsimp only [dats]; exact if_neg h0, accAt_later m c t h0]
    simp only [found8 m c t h0]
    unfold carried stepAt
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bodyLater c (grid0.coords t) _ _ _ _ _ _ _ _ _ _ _ _ _ _ _ _ _ _ _ _ _ _ (fun h => h0 ((isFirst t).mp h)) (bX m c t) (bWg m c t) (bSg m c t) (bSu m c t) (bSd m c t) (bG m c t) (bU m c t) (bD m c t) (ch0 m c) (ch1 m c) (chW0 m c) (chW1 m c) (accAt m c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) defs₀ Variants.none () Set.univ := fun t => by
  rw [bigSep_W0, bigSep_W0, body_row]
  exact triple_restated (sound_body m c t) rfl .rfl fun _ => .rfl

/-- The scratch known to hold something holds something. -/
theorem carried_some (c : Dev nD) : (carried m c : sProp 𝕄) ⊢ Pipeline.ΦA spec0 c := by
  rw [scratch_some]; unfold carried
  iintro ⟨⟨%d0, %d1, -, H0, H1⟩, Hg⟩
  isplitl [H0 H1]
  · isplitl [H0]
    · iexists _; iexact H0
    iexists _; iexact H1
  iexact Hg

set_option backward.isDefEq.respectTransparency.types false in
/-- The run: every array ends as the proof data say, the host's buffers as the operations after the region leave
    them, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := dats_A m)
    (hin := fun c => .rfl) (hout := fun c => carried_some m c)
    (Q' := fun r => Pipeline.FramePost cfgs (dats m) 0 (Pipeline.afterTail₀ cfgs (dats m) 0 (V0 m) [hostOps1]) r ∧ r.2.sem = fun _ => 0)
    (hQ' := fun _ h => h)

/-- The program runs, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨h.1, h.2⟩) (θ_run_and
    (frame_of m ρ (dats m) (dats_A m) ((θ_run defs _ _).mono (fun _ h => h.1) (run_main m ρ)))
    ((θ_run defs _ _).mono (fun _ h => h.2) (run_main m ρ)))

end Cert.KernelIdeal.Gen

end
-- ==== Proof.Same.lean ====
module

public import proofs.«01_k».proof.Proof.Run
public import proofs.«01_k».proof.Proof.Gen.Kernel
public import proofs.«01_k».proof.Defs

/-! The kernel as written and the kernel read at exact arithmetic are one program text, so what was shown of the one at
any float values is shown of the other. -/

@[expose] public section

set_option maxRecDepth 16384

noncomputable section

namespace Cert.Proof

open Idealize.ShloMosaic Idealize.SL.Sem

set_option maxHeartbeats 1000000 in
/-- The two programs' kernel bodies. -/
theorem rows_same : Cert.Kernel.defs₀ (F := Bits) = Cert.KernelIdeal.defs₀ (F := Bits) := by
  unfold Cert.Kernel.defs₀ Cert.KernelIdeal.defs₀
  refine congrArg Defs.onTc ?_
  funext l a
  match l with
  | ⟨0, _⟩ => rfl
  | ⟨n + 1, h⟩ => exact absurd h (Nat.not_lt.2 (Nat.le_add_left _ _))

/-- The two programs' tables of bodies. -/
theorem defs_same : Cert.Kernel.defs (F := Bits) = Cert.KernelIdeal.defs (F := Bits) :=
  congrArg (Pipeline.defs (Cert.Kernel.pcfgs (F := Bits))) rows_same

set_option maxHeartbeats 1000000 in
/-- The kernel runs, its arguments end unchanged and every counter ends at zero. -/
theorem kernel_frame : Cert.quiescent_Kernel (hKernel := Cert.Kernel.Gen.facts) := fun m ρ _ => by
  rw [defs_same]
  exact Cert.KernelIdeal.Gen.frame (F := Bits) m ρ

end Cert.Proof

end
-- ==== Proof.Math.lean ====
module

public import Idealize.ShloMosaic.Lib.Pointwise
public import Idealize.ShloMosaic.Lib.SortPrefix

/-! The mathematics of the layer over the extended reals, no program in sight: the row's softmax, the two experts it
picks with their weights, one gated expert, and the layer's output at a token and a feature. -/

@[expose] public section

set_option maxRecDepth 16384

noncomputable section

namespace Cert.Layer

open Idealize.ShloMosaic

/-! ## The router's probabilities -/

/-- The greatest of a row. -/
def rowMax (l : Fin 64 → EReal) : EReal := Finset.univ.fold max ⊥ l

/-- The row's softmax, its maximum taken off first. -/
def softmax (l : Fin 64 → EReal) (e : Fin 64) : EReal :=
  Ideal.div (Ideal.exp (l e - rowMax l)) (∑ k, Ideal.exp (l k - rowMax l))

/-- A row's maximum is at least each entry. -/
theorem le_rowMax (l : Fin 64 → EReal) (j : Fin 64) : l j ≤ rowMax l :=
  (Finset.le_fold_max _).mpr (Or.inr ⟨j, Finset.mem_univ j, le_rfl⟩)

/-- A row's maximum is one of its entries. -/
theorem rowMax_mem (l : Fin 64 → EReal) : ∃ i, l i = rowMax l := by
  obtain ⟨i, -, hi⟩ := Finset.exists_max_image (Finset.univ : Finset (Fin 64)) l ⟨0, Finset.mem_univ _⟩
  exact ⟨i, le_antisymm (le_rowMax l i)
    ((Finset.fold_max_le _).mpr ⟨bot_le, fun j hj => hi j hj⟩)⟩

theorem exp_nonneg (x : EReal) : 0 ≤ Ideal.exp x := by
  induction x with
  | bot => exact le_rfl
  | top => exact le_top
  | coe r => exact EReal.coe_nonneg.mpr (Real.exp_pos r).le

/-- A row of probabilities: nonnegative throughout, or (when the greatest logit is infinite) nothing at all. -/
theorem softmax_cases (l : Fin 64 → EReal) : (∀ j, 0 ≤ softmax l j) ∨ (∀ j, softmax l j = ⊥) := by
  by_cases hz : ∀ j, Ideal.exp (l j - rowMax l) = 0
  · refine Or.inr fun j => ?_
    unfold softmax
    rw [hz j, Finset.sum_eq_zero fun k _ => hz k]
    simp [Ideal.div]
  · refine Or.inl fun j => ?_
    obtain ⟨i, hi⟩ := not_forall.mp hz
    have hpos : 0 < ∑ k, Ideal.exp (l k - rowMax l) :=
      lt_of_lt_of_le (lt_of_le_of_ne (exp_nonneg _) (Ne.symm hi))
        (Finset.single_le_sum (f := fun k => Ideal.exp (l k - rowMax l)) (fun k _ => exp_nonneg _) (Finset.mem_univ i))
    unfold softmax Ideal.div
    rw [if_neg hpos.ne']
    exact mul_nonneg (exp_nonneg _) (EReal.inv_nonneg_of_nonneg hpos.le)

/-! ## The two greatest -/

/-- The entries' order from the greatest down, equal ones in index order. -/
def order (p : Fin 64 → EReal) : Fin 64 → Fin 64 :=
  sortedFrom fun k k' => Ideal.cmp .ogt (p k) (p k') == 1#1

/-- The weight a row gives an expert: its share among the two greatest if it is one of them, else nothing. -/
def weight (p : Fin 64 → EReal) (e : Fin 64) : EReal :=
  (if order p 0 = e then Ideal.div (p (order p 0)) (p (order p 0) + p (order p 1)) else 0)
    + (if order p 1 = e then Ideal.div (p (order p 1)) (p (order p 0) + p (order p 1)) else 0)

/-- `i` is the first place of the greatest entry. -/
def IsFirst (p : Fin 64 → EReal) (i : Fin 64) : Prop := (∀ j, p j ≤ p i) ∧ ∀ j, j < i → p j < p i

theorem before_eq (a b : EReal) : (Ideal.cmp .ogt a b == 1#1) = decide (b < a) := by
  unfold Ideal.cmp
  by_cases h : b < a <;> simp [h]

/-- A stable sort asks its order only of pairs as they stand in the list. -/
theorem insert_same {ι : Type} {R R' : ι → ι → Bool} (a : ι) (m : List ι) (h : ∀ b ∈ m, R b a = R' b a) :
    insertBefore R a m = insertBefore R' a m := by
  induction m with
  | nil => rfl
  | cons b m ih =>
    unfold insertBefore
    rw [h b List.mem_cons_self, ih fun c hc => h c (List.mem_cons_of_mem _ hc)]

theorem stable_same {ι : Type} {R R' : ι → ι → Bool} (l : List ι) (h : l.Pairwise fun a b => R b a = R' b a) :
    stableSort R l = stableSort R' l := by
  induction l with
  | nil => rfl
  | cons a l ih =>
    rw [List.pairwise_cons] at h
    unfold stableSort
    rw [ih h.2]
    exact insert_same a _ fun b hb => h.1 b ((perm_stableSort R' l).mem_iff.mp hb)

/-- Equal sorted lists, equal sources. -/
theorem from_same {n : ℕ} (R R' : Fin n → Fin n → Bool) (h : sortPositions n R = sortPositions n R') :
    sortedFrom R = sortedFrom R' := by
  funext k
  unfold sortedFrom
  rw [List.get_of_eq h]
  rfl

/-- The order as a strict total one: by entry, then by place. -/
def byPlace (p : Fin 64 → EReal) (k k' : Fin 64) : Bool :=
  decide (p k' < p k) || (decide (p k = p k') && decide (k < k'))

theorem order_eq (p : Fin 64 → EReal) : order p = sortedFrom (byPlace p) := by
  have hs : sortPositions 64 (fun k k' => Ideal.cmp .ogt (p k) (p k') == 1#1) = sortPositions 64 (byPlace p) := by
    refine stable_same _ ((List.pairwise_lt_finRange 64).imp fun {a b} hab => ?_)
    rw [before_eq]
    unfold byPlace
    have : ¬ b < a := not_lt.mpr hab.le
    simp [this]
  exact from_same _ _ hs

theorem byPlace_iff (p : Fin 64 → EReal) (k k' : Fin 64) : byPlace p k k' = true ↔ p k' < p k ∨ (p k = p k' ∧ k < k') := by
  unfold byPlace
  rw [Bool.or_eq_true, Bool.and_eq_true, decide_eq_true_iff, decide_eq_true_iff, decide_eq_true_iff]

theorem byPlace_total (p : Fin 64 → EReal) : StrictTotalBefore (byPlace p) where
  irrefl a := Bool.eq_false_iff.mpr fun h => by
    rw [byPlace_iff] at h
    exact h.elim (lt_irrefl _) fun h => lt_irrefl _ h.2
  trans a b c hab hbc := by
    rw [byPlace_iff] at *
    rcases hab with hab | ⟨eab, lab⟩ <;> rcases hbc with hbc | ⟨ebc, lbc⟩
    · exact Or.inl (hbc.trans hab)
    · exact Or.inl (ebc ▸ hab)
    · exact Or.inl (eab ▸ hbc)
    · exact Or.inr ⟨eab.trans ebc, lab.trans lbc⟩
  total a b hne := by
    rw [byPlace_iff, byPlace_iff]
    rcases lt_trichotomy (p a) (p b) with h | h | h
    · exact Or.inr (Or.inl h)
    · rcases lt_or_gt_of_ne hne with hlt | hgt
      · exact Or.inl (Or.inr ⟨h, hlt⟩)
      · exact Or.inr (Or.inr ⟨h.symm, hgt⟩)
    · exact Or.inl (Or.inl h)

/-- The two greatest, from their places: the first place of the maximum, and the first of the maximum of the rest. -/
theorem order_pair (p : Fin 64 → EReal) (i j : Fin 64) (hij : j ≠ i) (hi : IsFirst p i)
    (hj : ∀ k, k ≠ i → p k ≤ p j) (hj' : ∀ k, k ≠ i → k < j → p k < p j) : order p 0 = i ∧ order p 1 = j := by
  have hB := byPlace_total p
  have hno : ∀ a b : Fin 64, p a ≤ p b → (a < b → p a < p b) → byPlace p a b = false := fun a b h h' => by
    unfold byPlace
    rw [Bool.or_eq_false_iff]
    refine ⟨decide_eq_false (not_lt.mpr h), ?_⟩
    rw [Bool.and_eq_false_iff]
    by_cases hab : a < b
    · exact Or.inl (decide_eq_false (h' hab).ne)
    · exact Or.inr (decide_eq_false hab)
  have hinj : Function.Injective ![i, j] := fun a b h => by
    match a, b with
    | 0, 0 => rfl
    | 1, 1 => rfl
    | 0, 1 => exact absurd h hij.symm
    | 1, 0 => exact absurd h hij
  have hord : ∀ a b : Fin 2, a < b → byPlace p (![i, j] b) (![i, j] a) = false := fun a b hab => by
    match a, b with
    | 0, 0 => exact absurd hab (lt_irrefl _)
    | 1, 1 => exact absurd hab (lt_irrefl _)
    | 0, 1 => exact hno j i (hi.1 j) (hi.2 j)
    | 1, 0 => exact absurd hab (by decide)
  have hdom : ∀ (a : Fin 2) (k : Fin 64), (∀ b, ![i, j] b ≠ k) → byPlace p k (![i, j] a) = false := fun a k hk => by
    have k0 : k ≠ i := fun h => hk 0 h.symm
    match a with
    | 0 => exact hno k i (hi.1 k) (hi.2 k)
    | 1 => exact hno k j (hj k k0) (hj' k k0)
  have key := hB.sortedFrom_eq_of_prefix (k := 2) (by decide) ![i, j] hinj hord hdom
  rw [order_eq]
  have k0 : Fin.castLE (by decide : 2 ≤ 64) 0 = (0 : Fin 64) := rfl
  have k1 : Fin.castLE (by decide : 2 ≤ 64) 1 = (1 : Fin 64) := rfl
  have e0 := key 0
  have e1 := key 1
  rw [k0] at e0
  rw [k1] at e1
  exact ⟨e0, e1⟩

/-! ## The same two, by taking the maximum twice -/

theorem minsi_toInt (a b : BitVec 32) : (IntOp.minsi a b).toInt = min a.toInt b.toInt := by
  unfold IntOp.minsi
  rw [BitVec.slt]
  by_cases h : a.toInt < b.toInt
  · rw [decide_eq_true h, if_pos rfl, min_eq_left h.le]
  · rw [decide_eq_false h, if_neg (by decide), min_eq_right (not_lt.mp h)]

instance : Std.Commutative (IntOp.minsi (w := 32)) :=
  ⟨fun a b => BitVec.eq_of_toInt_eq (by rw [minsi_toInt, minsi_toInt, min_comm])⟩
instance : Std.Associative (IntOp.minsi (w := 32)) :=
  ⟨fun a b c => BitVec.eq_of_toInt_eq (by simp only [minsi_toInt, min_assoc])⟩

/-- The number of the first place where the row equals `v`, as a word; 64 stands where it does not. -/
def place (q : Fin 64 → EReal) (v : EReal) : BitVec 32 :=
  Finset.univ.fold IntOp.minsi 2147483647#32 fun k : Fin 64 => if q k = v then BitVec.ofNat 32 k.val else 64#32

theorem small_toInt (n : ℕ) (h : n ≤ 128) : (BitVec.ofNat 32 n).toInt = n := by
  rw [BitVec.toInt_ofNat']
  have : n % 2 ^ 32 = n := Nat.mod_eq_of_lt (by omega)
  simp only [Int.bmod]
  omega

theorem place_toInt (q : Fin 64 → EReal) (v : EReal) :
    (place q v).toInt = Finset.univ.fold min 2147483647 fun k : Fin 64 => if q k = v then (k.val : ℤ) else 64 := by
  unfold place
  rw [← Finset.fold_hom (op := IntOp.minsi) (op' := min) (m := BitVec.toInt) minsi_toInt]
  refine congrArg₂ (fun a f => Finset.fold min a f Finset.univ) (by decide) (funext fun k => ?_)
  split
  · exact small_toInt _ (by have := k.isLt; omega)
  · exact small_toInt 64 (by decide)

/-- The first place of the maximum is the one the search finds. -/
theorem place_max (q : Fin 64 → EReal) : ∃ i, IsFirst q i ∧ rowMax q = q i ∧ place q (rowMax q) = BitVec.ofNat 32 i.val := by
  classical
  obtain ⟨i₀, hi₀⟩ := rowMax_mem q
  obtain ⟨i, hi, hmin⟩ := Finset.exists_min_image (Finset.univ.filter fun k => q k = rowMax q) id
    ⟨i₀, Finset.mem_filter.mpr ⟨Finset.mem_univ _, hi₀⟩⟩
  have hi' : q i = rowMax q := (Finset.mem_filter.mp hi).2
  have hlow : ∀ k, q k = rowMax q → i ≤ k := fun k hk => hmin k (Finset.mem_filter.mpr ⟨Finset.mem_univ _, hk⟩)
  refine ⟨i, ⟨fun j => hi' ▸ le_rowMax q j, fun j hj => ?_⟩, hi'.symm, BitVec.eq_of_toInt_eq ?_⟩
  · rw [hi']
    exact lt_of_le_of_ne (le_rowMax q j) fun h => absurd hj (not_lt.mpr (hlow j h))
  · rw [place_toInt, small_toInt _ (by have := i.isLt; omega)]
    refine le_antisymm ((Finset.fold_min_le _).mpr (Or.inr ⟨i, Finset.mem_univ i, by rw [if_pos hi']⟩)) ?_
    refine (Finset.le_fold_min _).mpr ⟨by have := i.isLt; omega, fun k _ => ?_⟩
    split
    · next h => exact_mod_cast (show i.val ≤ k.val from hlow k h)
    · have := i.isLt; omega

/-- The row with the entry of number `w` replaced by `c`. -/
def masked (q : Fin 64 → EReal) (w : BitVec 32) (c : EReal) (k : Fin 64) : EReal := if BitVec.ofNat 32 k.val = w then c else q k

/-- The weight of expert number `e` in a row, by taking the maximum twice. -/
def weight' (p : Fin 64 → EReal) (c : EReal) (e : BitVec 32) : EReal :=
  (if place p (rowMax p) = e then
      Ideal.div (rowMax p) (rowMax p + rowMax (masked p (place p (rowMax p)) c)) else 0)
    + (if place (masked p (place p (rowMax p)) c) (rowMax (masked p (place p (rowMax p)) c)) = e then
      Ideal.div (rowMax (masked p (place p (rowMax p)) c)) (rowMax p + rowMax (masked p (place p (rowMax p)) c)) else 0)

theorem ofNat_inj {a b : Fin 64} : BitVec.ofNat 32 a.val = BitVec.ofNat 32 b.val ↔ a = b := by
  refine ⟨fun h => Fin.ext ?_, fun h => h ▸ rfl⟩
  have := congrArg BitVec.toNat h
  simp only [BitVec.toNat_ofNat] at this
  omega

theorem weight'_eq (l : Fin 64 → EReal) (c : EReal) (hc : c < 0) (e : Fin 64) :
    weight' (softmax l) c (BitVec.ofNat 32 e.val) = weight (softmax l) e := by
  obtain h | h := softmax_cases l
  · generalize softmax l = p at h
    obtain ⟨i, hi, hm, hw⟩ := place_max p
    obtain ⟨j, hj, hm', hw'⟩ := place_max (masked p (place p (rowMax p)) c)
    have hk : ∀ k, k ≠ i → masked p (place p (rowMax p)) c k = p k := fun k hk => by
      unfold masked; rw [hw, if_neg fun h => hk (ofNat_inj.mp h)]
    have hki : masked p (place p (rowMax p)) c i = c := by unfold masked; rw [hw, if_pos rfl]
    have hji : j ≠ i := fun hji => by
      subst hji
      obtain ⟨k, hkj⟩ : ∃ k : Fin 64, k ≠ j := by
        by_cases h0 : j = 0
        · exact ⟨1, by rw [h0]; decide⟩
        · exact ⟨0, Ne.symm h0⟩
      have h1 := hj.1 k
      rw [hk k hkj, hki] at h1
      exact absurd (lt_of_le_of_lt ((h k).trans h1) hc) (lt_irrefl _)
    have hpair := order_pair p i j hji hi
      (fun k hk' => by have := hj.1 k; rwa [hk k hk', hk j hji] at this)
      (fun k hk' hlt => by have := hj.2 k hlt; rwa [hk k hk', hk j hji] at this)
    unfold weight' weight
    rw [hw', hm', hk j hji, hw, hm, hpair.1, hpair.2]
    simp only [ofNat_inj]
  · have hp : softmax l = fun _ => ⊥ := funext h
    have hm : rowMax (softmax l) = ⊥ := by
      obtain ⟨i, hi⟩ := rowMax_mem (softmax l)
      rw [← hi, h i]
    unfold weight' weight
    rw [hm]
    simp [h, Ideal.div]

/-! ## The experts and the layer -/

/-- A gated expert's hidden unit `f` for a token with features `x`. -/
def hidden (x : Fin 1024 → EReal) (G U : Fin 512 → Fin 1024 → EReal) (f : Fin 512) : EReal :=
  (∑ k, x k * G f k) * Ideal.logistic (∑ k, x k * G f k) * ∑ k, x k * U f k

/-- A gated expert's output feature `d`. -/
def expert (x : Fin 1024 → EReal) (G U : Fin 512 → Fin 1024 → EReal) (D : Fin 1024 → Fin 512 → EReal) (d : Fin 1024) : EReal :=
  ∑ f, hidden x G U f * D d f

/-- The router's probabilities of a token. -/
def probs (x : Fin 1024 → EReal) (W : Fin 64 → Fin 1024 → EReal) : Fin 64 → EReal := softmax fun e => ∑ k, x k * W e k

/-- The layer's output feature `d` for a token: the shared expert plus the weighted experts. -/
def layer (x : Fin 1024 → EReal) (W : Fin 64 → Fin 1024 → EReal) (G U : Fin 64 → Fin 512 → Fin 1024 → EReal)
    (D : Fin 64 → Fin 1024 → Fin 512 → EReal) (SG SU : Fin 512 → Fin 1024 → EReal) (SD : Fin 1024 → Fin 512 → EReal)
    (d : Fin 1024) : EReal :=
  expert x SG SU SD d + ∑ e, expert x (G e) (U e) (D e) d * weight (probs x W) e

end Cert.Layer

end
-- ==== Proof.KernelRead.lean ====
module

public import proofs.«01_k».proof.Proof.Body
public import proofs.«01_k».proof.Proof.Math

/-! The kernel's values over the extended reals, read at a token and a lane. -/

@[expose] public section

set_option maxRecDepth 16384

noncomputable section

namespace Cert.KernelIdeal.Value

open Idealize.ShloMosaic Idealize.ShloMosaic.TcCoe Idealize.SL.Sem
open Cert.KernelIdeal Cert.KernelIdeal.Gen

variable (x : FVec Ideal S128x1024 .f32) (wg : FVec Ideal S64x1024 .f32)

/-- Token `r`'s router logits. -/
def logits (r : Fin 128) (e : Fin 64) : EReal := ∑ k : Fin 1024, x (ix2 r k) * wg (ix2 e k)

theorem neg_inf : Ideal.ofBits .f32 0xFF800000#32 = ⊥ := by
  simp [Ideal.ofBits, Ideal.ieee]

theorem neg_one : Ideal.ofBits .f32 0xBF800000#32 < 0 := by
  have h : Ideal.ofBits .f32 0xBF800000#32 = ((-1 : ℝ) : EReal) := by
    simp [Ideal.ofBits, Ideal.ieee]
    rw [← EReal.coe_mul, ← EReal.coe_one]
    exact congrArg _ (by norm_num)
  rw [h]
  exact_mod_cast (by norm_num : (-1 : ℝ) < 0)

/-- A choice on the equality of two words. -/
theorem sel_word {α : Type} (a b : BitVec 32) (y z : α) : Scalar.select (IntOp.cmpi .eq a b) y z = if a = b then y else z := by
  unfold Scalar.select IntOp.cmpi
  by_cases h : a = b
  · subst h; simp
  · have hb : (a == b) = false := by simpa using h
    rw [hb, if_neg h]
    rfl

/-- The router's probabilities of token `r`. -/
abbrev pr (r : Fin 128) : Fin 64 → EReal := Layer.softmax (logits x wg r)

theorem pay3_at (r : Fin 128) (e : Fin 64) : k0_pay3 (F := Ideal) x wg (ix2 r e) = pr x wg r e := by
  pointwise [k0_pay3, k0_pay2, neg_inf]
  rfl

theorem pay4_at (r : Fin 128) (o : Fin 1) : k0_pay4 (F := Ideal) x wg (ix2 r o) = Layer.rowMax (pr x wg r) := by
  pointwise [k0_pay4, pay3_at, neg_inf]
  rfl

theorem pay5_at (r : Fin 128) (o : Fin 1) : k0_pay5 (F := Ideal) x wg (ix2 r o)
    = Layer.place (pr x wg r) (Layer.rowMax (pr x wg r)) := by
  pointwise [k0_pay5, pay3_at, pay4_at]
  rfl

/-- The probabilities with the greatest one masked off. -/
abbrev pr2 (r : Fin 128) : Fin 64 → EReal :=
  Layer.masked (pr x wg r) (Layer.place (pr x wg r) (Layer.rowMax (pr x wg r))) (Ideal.ofBits .f32 0xBF800000#32)

theorem pay6_at (r : Fin 128) (e : Fin 64) : k0_pay6 (F := Ideal) x wg (ix2 r e) = pr2 x wg r e := by
  pointwise [k0_pay6, pay3_at, pay5_at]
  exact sel_word _ _ _ _

theorem pay7_at (r : Fin 128) (o : Fin 1) : k0_pay7 (F := Ideal) x wg (ix2 r o) = Layer.rowMax (pr2 x wg r) := by
  pointwise [k0_pay7, pay6_at, neg_inf]
  rfl

theorem ch0_at (r : Fin 128) (o : Fin 1) : k0_pay9 (F := Ideal) x wg (ix2 r o)
    = Layer.place (pr x wg r) (Layer.rowMax (pr x wg r)) := by
  pointwise [k0_pay9, pay5_at]

theorem ch1_at (r : Fin 128) (o : Fin 1) : k0_pay10 (F := Ideal) x wg (ix2 r o)
    = Layer.place (pr2 x wg r) (Layer.rowMax (pr2 x wg r)) := by
  pointwise [k0_pay10, pay6_at, pay7_at]
  rfl

theorem wt0_at (r : Fin 128) (o : Fin 1) : wt0 (F := Ideal) x wg (ix2 r o)
    = Ideal.div (Layer.rowMax (pr x wg r)) (Layer.rowMax (pr x wg r) + Layer.rowMax (pr2 x wg r)) := by
  pointwise [wt0, k0_pay11, k0_pay8, pay4_at, pay7_at]

theorem wt1_at (r : Fin 128) (o : Fin 1) : wt1 (F := Ideal) x wg (ix2 r o)
    = Ideal.div (Layer.rowMax (pr2 x wg r)) (Layer.rowMax (pr x wg r) + Layer.rowMax (pr2 x wg r)) := by
  pointwise [wt1, k0_pay12, k0_pay8, pay4_at, pay7_at]

/-- The shared expert at token `r` and feature `l`. -/
theorem shared_at (g u : FVec Ideal S512x1024 .f32) (d : FVec Ideal S1024x512 .f32) (r : Fin 128) (l : Fin 1024) :
    shared (F := Ideal) x g u d (ix2 r l)
      = Layer.expert (fun k => x (ix2 r k)) (fun f k => g (ix2 f k)) (fun f k => u (ix2 f k)) (fun a f => d (ix2 a f)) l := by
  pointwise [shared, k0_pay13, k0_pay2]
  rfl

/-- A point's first expert. -/
theorem first_at (g u : FVec Ideal S2x512x1024 .f32) (d : FVec Ideal S2x1024x512 .f32) (r : Fin 128) (l : Fin 1024) :
    k0_pay16 (F := Ideal) x (View.ld g ex0) (View.ld u ex0) (View.ld d exd0) (ix2 r l)
      = Layer.expert (fun k => x (ix2 r k)) (fun f k => g (ix3 0 f k)) (fun f k => u (ix3 0 f k)) (fun a f => d (ix3 0 a f)) l := by
  pointwise [k0_pay16, k0_pay14]
  rfl

/-- A point's second expert. -/
theorem second_at (g u : FVec Ideal S2x512x1024 .f32) (d : FVec Ideal S2x1024x512 .f32) (r : Fin 128) (l : Fin 1024) :
    k0_pay19 (F := Ideal) (k0_pay14 x) (View.ld g ex1) (View.ld u ex1) (View.ld d exd1) (ix2 r l)
      = Layer.expert (fun k => x (ix2 r k)) (fun f k => g (ix3 1 f k)) (fun f k => u (ix3 1 f k)) (fun a f => d (ix3 1 a f)) l := by
  pointwise [k0_pay19, k0_pay14]
  rfl

/-- The two experts' numbers at a point, as words. -/
theorem even_word (n : ℕ) : Scalar.addi (Scalar.muli (BitVec.ofNat 32 n) 2#32) 0#32 = BitVec.ofNat 32 (2 * n) := by
  apply BitVec.eq_of_toNat_eq
  simp [Scalar.addi, Scalar.muli, IntOp.addi, IntOp.muli, mul_comm]
theorem odd_word (n : ℕ) : Scalar.addi (Scalar.muli (BitVec.ofNat 32 n) 2#32) 1#32 = BitVec.ofNat 32 (2 * n + 1) := by
  apply BitVec.eq_of_toNat_eq
  simp [Scalar.addi, Scalar.muli, IntOp.addi, IntOp.muli, mul_comm]

/-- What an expert numbered `e` is weighted by, from the two choices and their weights. -/
def pick (c0 c1 : BitVec 32) (w0 w1 : EReal) (e : BitVec 32) : EReal := (if c0 = e then w0 else 0) + (if c1 = e then w1 else 0)

/-- One point's step of the output block. -/
theorem step_at (i : grid0.Coords) (g u : FVec Ideal S2x512x1024 .f32) (d : FVec Ideal S2x1024x512 .f32)
    (c0 c1 : IVec S128x1 32) (w0 w1 : FVec Ideal S128x1 .f32) (o : FVec Ideal S128x1024 .f32) (r : Fin 128) (l : Fin 1024) :
    stepOut (F := Ideal) i x g u d c0 c1 w0 w1 o (ix2 r l)
      = o (ix2 r l)
        + (Layer.expert (fun k => x (ix2 r k)) (fun f k => g (ix3 0 f k)) (fun f k => u (ix3 0 f k)) (fun a f => d (ix3 0 a f)) l
            * pick (c0 (ix2 r 0)) (c1 (ix2 r 0)) (w0 (ix2 r 0)) (w1 (ix2 r 0)) (BitVec.ofNat 32 (2 * (i 0).val))
          + Layer.expert (fun k => x (ix2 r k)) (fun f k => g (ix3 1 f k)) (fun f k => u (ix3 1 f k)) (fun a f => d (ix3 1 a f)) l
            * pick (c0 (ix2 r 0)) (c1 (ix2 r 0)) (w0 (ix2 r 0)) (w1 (ix2 r 0)) (BitVec.ofNat 32 (2 * (i 0).val + 1))) := by
  pointwise [stepOut, k0_pay1, k0_pay18, k0_pay15, k0_pay17, k0_pay20, k0_pay21, first_at, second_at]
  rw [even_word, odd_word, sel_word, sel_word, sel_word, sel_word]
  rfl

/-- What the router's choices and weights give expert `e`. -/
theorem pick_at (r : Fin 128) (e : Fin 64) :
    pick (k0_pay9 (F := Ideal) x wg (ix2 r 0)) (k0_pay10 (F := Ideal) x wg (ix2 r 0)) (wt0 (F := Ideal) x wg (ix2 r 0))
        (wt1 (F := Ideal) x wg (ix2 r 0)) (BitVec.ofNat 32 e.val)
      = Layer.weight (Layer.probs (fun k => x (ix2 r k)) (fun e k => wg (ix2 e k))) e := by
  rw [ch0_at, ch1_at, wt0_at, wt1_at]
  exact Layer.weight'_eq (logits x wg r) _ neg_one e

end Cert.KernelIdeal.Value

end
-- ==== Proof.Out.lean ====
module

public import proofs.«01_k».proof.Proof.Run
public import proofs.«01_k».proof.Proof.KernelRead

/-! What the kernel's output holds: the blocks as parts of the arguments, the output block as a sum over the experts,
and the result array. -/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The windows' index maps. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![t.val, 0, 0] ∧ win0_6.index t = ![t.val, 0, 0]
    ∧ win0_7.index t = ![t.val, 0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![t.val, 0, 0] ∧ win0_6.index t = ![t.val, 0, 0]
    ∧ win0_7.index t = ![t.val, 0, 0])

/-! The arguments at their shapes. -/
abbrev aX : FVec Ideal S32x4x1024 .f32 := m ((c : Thread nD τ).loc main_arg0)
abbrev aWg : FVec Ideal S64x1024 .f32 := m ((c : Thread nD τ).loc main_arg1)
abbrev aG : FVec Ideal S64x512x1024 .f32 := m ((c : Thread nD τ).loc main_arg2)
abbrev aU : FVec Ideal S64x512x1024 .f32 := m ((c : Thread nD τ).loc main_arg3)
abbrev aD : FVec Ideal S64x1024x512 .f32 := m ((c : Thread nD τ).loc main_arg4)
abbrev aSg : FVec Ideal S512x1024 .f32 := m ((c : Thread nD τ).loc main_arg5)
abbrev aSu : FVec Ideal S512x1024 .f32 := m ((c : Thread nD τ).loc main_arg6)
abbrev aSd : FVec Ideal S1024x512 .f32 := m ((c : Thread nD τ).loc main_arg7)

/-- The token-major input: the host's reshape of the first argument. -/
theorem entry : V m c main_v0 = shapeCast S128x1024 (aX m c) shapeCasts_S32x4x1024_S128x1024 := by
  entry_read
  rfl

theorem bX_whole (t : Fin cfg0.N) : bX m c t = V m c main_v0 := by
  unfold bX
  blk_ext! [iblk, idx t]

theorem bX_at (t : Fin cfg0.N) (r : Fin 128) (k : Fin 1024) :
    bX m c t (ix2 r k) = aX m c (ix3 ⟨r.val / 4, by omega⟩ ⟨r.val % 4, by omega⟩ k) := by
  rw [bX_whole, entry]
  pointwise

theorem bWg_at (t : Fin cfg0.N) : bWg m c t = aWg m c := by
  unfold bWg aWg
  blk_ext! [iblk, V, idx t]

theorem bSg_at (t : Fin cfg0.N) : bSg m c t = aSg m c := by
  unfold bSg aSg
  blk_ext! [iblk, V, idx t]

theorem bSu_at (t : Fin cfg0.N) : bSu m c t = aSu m c := by
  unfold bSu aSu
  blk_ext! [iblk, V, idx t]

theorem bSd_at (t : Fin cfg0.N) : bSd m c t = aSd m c := by
  unfold bSd aSd
  blk_ext! [iblk, V, idx t]

theorem bG_at (t : Fin cfg0.N) (b : Fin 2) (f : Fin 512) (k : Fin 1024) (e : Fin 64) (he : e.val = 2 * t.val + b.val) :
    bG m c t (ix3 b f k) = aG m c (ix3 e f k) := by
  unfold bG aG
  blk_ext [iblk, V, idx t]

theorem bU_at (t : Fin cfg0.N) (b : Fin 2) (f : Fin 512) (k : Fin 1024) (e : Fin 64) (he : e.val = 2 * t.val + b.val) :
    bU m c t (ix3 b f k) = aU m c (ix3 e f k) := by
  unfold bU aU
  blk_ext [iblk, V, idx t]

theorem bD_at (t : Fin cfg0.N) (b : Fin 2) (k : Fin 1024) (f : Fin 512) (e : Fin 64) (he : e.val = 2 * t.val + b.val) :
    bD m c t (ix3 b k f) = aD m c (ix3 e k f) := by
  unfold bD aD
  blk_ext [iblk, V, idx t]

/-- Token `r`'s features. -/
abbrev tok (r : Fin 128) (k : Fin 1024) : EReal := aX m c (ix3 ⟨r.val / 4, by omega⟩ ⟨r.val % 4, by omega⟩ k)

/-- Expert `e`'s weighted product at token `r` and feature `l`. -/
def part (r : Fin 128) (l : Fin 1024) (e : Fin 64) : EReal :=
  Layer.expert (tok m c r) (fun f k => aG m c (ix3 e f k)) (fun f k => aU m c (ix3 e f k)) (fun a f => aD m c (ix3 e a f)) l
    * Layer.weight (Layer.probs (tok m c r) (fun e k => aWg m c (ix2 e k))) e

/-- One of a point's two experts. -/
theorem part_at (t : Fin cfg0.N) (b : Fin 2) (r : Fin 128) (l : Fin 1024) (e : Fin 64) (he : e.val = 2 * t.val + b.val) :
    Layer.expert (fun k => bX m c t (ix2 r k)) (fun f k => bG m c t (ix3 b f k)) (fun f k => bU m c t (ix3 b f k))
        (fun a f => bD m c t (ix3 b a f)) l
      * pick (ch0 m c (ix2 r 0)) (ch1 m c (ix2 r 0)) (chW0 m c (ix2 r 0)) (chW1 m c (ix2 r 0)) (BitVec.ofNat 32 e.val)
      = part m c r l e := by
  unfold ch0 ch1 chW0 chW1 part
  rw [pick_at]
  simp only [bX_at, bWg_at, bG_at m c t b _ _ e he, bU_at m c t b _ _ e he, bD_at m c t b _ _ e he]

/-- One point's step at a token and a feature. -/
theorem stepAt_at (n : ℕ) (hn : n < 32) (o : FVec Ideal S128x1024 .f32) (r : Fin 128) (l : Fin 1024) :
    stepAt m c (pt n) o (ix2 r l)
      = o (ix2 r l) + (part m c r l ⟨2 * n, by omega⟩ + part m c r l ⟨2 * n + 1, by omega⟩) := by
  have hv : (pt n).val = n := val_pt hn
  have hi : (grid0.coords (pt n) 0).val = n := by
    rw [Pipeline.Grid.coords_val (pt n) 0 (by decide : grid0.stride 0 = 1) (rfl : grid0.bound 0 = 32), hv]
    show n / 1 % 32 = n
    omega
  unfold stepAt
  rw [step_at, hi, ← part_at m c (pt n) 0 r l ⟨2 * n, by omega⟩ (by rw [hv]; rfl),
    ← part_at m c (pt n) 1 r l ⟨2 * n + 1, by omega⟩ (by rw [hv]; rfl)]

/-- The output block after point `n`: the shared expert and the parts of the experts up to there. -/
theorem accAt_at (r : Fin 128) (l : Fin 1024) : ∀ (n : ℕ) (hn : n < 32), accAt m c n (ix2 r l)
    = Layer.expert (tok m c r) (fun f k => aSg m c (ix2 f k)) (fun f k => aSu m c (ix2 f k)) (fun a f => aSd m c (ix2 a f)) l
      + ∑ t : Fin (n + 1), (part m c r l ⟨2 * t.val, by omega⟩ + part m c r l ⟨2 * t.val + 1, by omega⟩)
  | 0, hn => by
    show stepAt m c (pt 0) _ (ix2 r l) = _
    rw [stepAt_at m c 0 hn, shared_at, Fin.sum_univ_one]
    simp only [bX_at, bSg_at, bSu_at, bSd_at]
    rfl
  | n + 1, hn => by
    show stepAt m c (pt (n + 1)) _ (ix2 r l) = _
    rw [stepAt_at m c (n + 1) hn, accAt_at r l n (by omega), Fin.sum_univ_castSucc (n := n + 1), add_assoc]
    rfl

/-- The finished output block is the layer. -/
theorem out_at (r : Fin 128) (l : Fin 1024) : accAt m c 31 (ix2 r l)
    = Layer.layer (tok m c r) (fun e k => aWg m c (ix2 e k)) (fun e f k => aG m c (ix3 e f k)) (fun e f k => aU m c (ix3 e f k))
        (fun e a f => aD m c (ix3 e a f)) (fun f k => aSg m c (ix2 f k)) (fun f k => aSu m c (ix2 f k))
        (fun a f => aSd m c (ix2 a f)) l := by
  rw [accAt_at m c r l 31 (by decide)]
  unfold Layer.layer
  refine congrArg (_ + ·) (Eq.symm ((Fin.sum_univ_tiles 32 2 rfl (part m c r l)).trans (Finset.sum_congr rfl fun t _ => ?_)))
  rw [Fin.sum_univ_two]
  refine congrArg₂ (· + ·) (congrArg _ (Fin.ext ?_)) (congrArg _ (Fin.ext ?_))
  · show t.val * 2 + 0 = 2 * t.val
    omega
  · show t.val * 2 + 1 = 2 * t.val + 1
    omega

/-- The region's result array. -/
theorem final : (dats m 0 c).arrAt 8 (cfgs 0).N = accAt m c 31 := by
  refine (dats m 0 c).arrAt_eq_of_after_last 8 (pt 31) (by decide +kernel) _ fun j => ?_
  blk_simp
  rw [left8, val_pt (by decide)]

/-- The result at the shapes of the arguments: token `(a, b)` is row `4 a + b` of the output block. -/
def result : FVec Ideal S32x4x1024 .f32 := shapeCast S32x4x1024 (accAt m c 31) shapeCasts_S128x1024_S32x4x1024

/-- The last host operation leaves the result. -/
theorem after_result :
    Pipeline.afterTail₀ cfgs (dats m) 0 (V0 m) [hostOps1] c main_v2 = result m c := by
  unfold Pipeline.afterTail₀
  simp only [hostOps1, List.flatten_cons, List.flatten_nil, List.append_nil]
  after_results_simp
  refine (congrArg (fun v : FVec Ideal S128x1024 .f32 => shapeCast S32x4x1024 v shapeCasts_S128x1024_S32x4x1024)
    ((Pipeline.withArrays_arr spec0 ?_ c (V0 m c) _ 8).trans (final m c)))
  decide

/-- The kernel's run: the result, and the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(((h.1.1 c).2 main_v2 (Pipeline.mem_restRefs_of main_v2 (by decide) (by decide))).trans
      (after_result m c)), h.2.1 c⟩)
    (θ_run_and (run_main m ρ) (frame m ρ))

/-- The result at a token and a feature is the layer. -/
theorem result_at (a : Fin 32) (b : Fin 4) (l : Fin 1024) : result m c (ix3 a b l)
    = Layer.layer (fun k => aX m c (ix3 a b k)) (fun e k => aWg m c (ix2 e k)) (fun e f k => aG m c (ix3 e f k))
        (fun e f k => aU m c (ix3 e f k)) (fun e a f => aD m c (ix3 e a f)) (fun f k => aSg m c (ix2 f k))
        (fun f k => aSu m c (ix2 f k)) (fun a f => aSd m c (ix2 a f)) l := by
  have hr : result m c (ix3 a b l) = accAt m c 31 (ix2 ⟨a.val * 4 + b.val, by omega⟩ l) := by
    unfold result
    pointwise
  rw [hr, out_at]
  refine congrArg (fun x => Layer.layer x _ _ _ _ _ _ _ l) (funext fun k => ?_)
  unfold tok
  refine congrArg (aX m c) (congrArg₂ (fun p q => ix3 p q k) (Fin.ext ?_) (Fin.ext ?_))
  · show (a.val * 4 + b.val) / 4 = a.val
    omega
  · show (a.val * 4 + b.val) % 4 = b.val
    omega

end Cert.KernelIdeal.Value

end
-- ==== Proof.RefRead.lean ====
module

public import proofs.«01_k».proof.Proof.Gen.ReferenceIdeal.Run
public import proofs.«01_k».proof.Proof.Math
public import Idealize.ShloMosaic.Lib.Routing.OpsPair
public import Idealize.ShloMosaic.Lib.Pointwise

/-! What the reference computes: its result at a token and a feature is the layer. -/

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

variable (x : FVec Ideal S32x4x1024 .f32) (wg : FVec Ideal S64x1024 .f32) (g u : FVec Ideal S64x512x1024 .f32)
  (d : FVec Ideal S64x1024x512 .f32) (sg su : FVec Ideal S512x1024 .f32) (sd : FVec Ideal S1024x512 .f32)

/-- The router's logits. -/
def lg : FVec Ideal S128x64 .f32 :=
  Host.dotGeneral dot_S128x1024_S1024x64_S128x64_1_0_0_1_n_n none (shapeCast S128x1024 x shapeCasts_S32x4x1024_S128x1024)
    (transpose S1024x64 [1, 0] wg transposes_S64x1024_S1024x64_1_0)

/-- The exponentials of a row of logits, the row's maximum taken off. -/
def ex (l : FVec Ideal S128x64 .f32) : FVec Ideal S128x64 .f32 :=
  Host.exp (subf l (broadcastInDim S128x64 ![0, 1] bcast_S128x1_S128x64_0_1 (broadcastInDim S128x1 ![0] bcast_S128_S128x1_0
    (maximumf (broadcastInDim S128 ![] bcast_S_S128 (constant S_ .f32 0xFF800000#32))
      (Host.reduce FloatOps.maximumf l (constant S_ .f32 0xFF800000#32) reducesTo_S128x64_S128_d1 h_S_)))))

/-- A row over its sum. -/
def share (e : FVec Ideal S128x64 .f32) : FVec Ideal S128x64 .f32 :=
  Host.divf e (broadcastInDim S128x64 ![0, 1] bcast_S128x1_S128x64_0_1 (broadcastInDim S128x1 ![0] bcast_S128_S128x1_0
    (Host.reduceAdd e (constant S_ .f32 0x00000000#32) reducesTo_S128x64_S128_d1 h_S_)))

/-- The two greatest of each row and their places. -/
def top (p : FVec Ideal S128x64 .f32) := Host.topK S128x2 1 (FloatOps.cmpfTotal .gt) p sliceFits_S128x64_S128x2

/-- The rows' numbers as index words. -/
def rows : IVec S128x1 32 := broadcastInDim S128x1 ![0] bcast_S128_S128x1_0 (iotaInDim S128 32 0)

/-- The index words of the chosen pairs of row and expert. -/
def pairs (i : IVec S128x2 32) : IVec S128x2x2 32 :=
  concatenate S128x2x2 2 [⟨S128x2x1, (broadcastInDim S128x2x1 ![0, 1] bcast_S128x2_S128x2x1_0_1
      (broadcastInDim S128x2 ![0, 1] bcast_S128x1_S128x2_0_1
        (select (cmpi .slt rows (broadcastInDim S128x1 ![] bcast_S_S128x1 (constantI S_ 32 0#32)))
          (addi rows (broadcastInDim S128x1 ![] bcast_S_S128x1 (constantI S_ 32 128#32))) rows)))⟩,
    ⟨S128x2x1, (broadcastInDim S128x2x1 ![0, 1] bcast_S128x2_S128x2x1_0_1
      (select (cmpi .slt i (broadcastInDim S128x2 ![] bcast_S_S128x2 (constantI S_ 32 0#32)))
        (addi i (broadcastInDim S128x2 ![] bcast_S_S128x2 (constantI S_ 32 64#32))) i))⟩] concatenates_S128x2x1_S128x2x1_S128x2x2_d2

/-- The two greatest over their sum. -/
def norm (v : FVec Ideal S128x2 .f32) : FVec Ideal S128x2 .f32 :=
  Host.divf v (broadcastInDim S128x2 ![0, 1] bcast_S128x1_S128x2_0_1 (broadcastInDim S128x1 ![0] bcast_S128_S128x1_0
    (Host.reduceAdd v (constant S_ .f32 0x00000000#32) reducesTo_S128x2_S128_d1 h_S_)))

/-- The weights, one for each token and expert. -/
def comb (t : FVec Ideal S128x2 .f32 × IVec S128x2 32) : FVec Ideal S128x64 .f32 :=
  Host.scatterAdd scatter_S128x64_S128x2x2_S128x2_n_01_01_2
    (broadcastInDim S128x64 ![] bcast_S_S128x64 (constant S_ .f32 0x00000000#32)) (pairs t.2) (norm t.1)

/-- A projection by every expert. -/
def proj (w : FVec Ideal S64x512x1024 .f32) : FVec Ideal S128x64x512 .f32 :=
  Host.dotGeneral dot_S128x1024_S64x512x1024_S128x64x512_1_2_0_01_n_n none
    (shapeCast S128x1024 x shapeCasts_S32x4x1024_S128x1024) w

/-- The gate's activation. -/
def act (h : FVec Ideal S128x64x512 .f32) : FVec Ideal S128x64x512 .f32 :=
  mulf h (Host.divf (broadcastInDim S128x64x512 ![] bcast_S_S128x64x512 (constant S_ .f32 0x3F800000#32))
    (addf (broadcastInDim S128x64x512 ![] bcast_S_S128x64x512 (constant S_ .f32 0x3F800000#32)) (Host.exp (Host.negf h))))

/-- The experts' outputs, summed with the weights. -/
def routed (w : FVec Ideal S128x64 .f32) : FVec Ideal S128x1024 .f32 :=
  Host.dotGeneral dot_S128x64x1024_S128x64_S128x1024_1_1_2_n_0_0 none
    (transpose S128x64x1024 [2, 0, 1] (Host.dotGeneral dot_S64x1024x512_S128x64x512_S64x1024x128_2_2_1_0_0_1 none d
      (mulf (act (proj x g)) (proj x u))) transposes_S64x1024x128_S128x64x1024_2_0_1) w

/-- A projection of the shared expert. -/
def sproj (w : FVec Ideal S512x1024 .f32) : FVec Ideal S32x4x512 .f32 :=
  Host.dotGeneral dot_S32x4x1024_S1024x512_S32x4x512_2_0_01_1_n_n none x (transpose S1024x512 [1, 0] w transposes_S512x1024_S1024x512_1_0)

/-- The shared gate's activation. -/
def sact (h : FVec Ideal S32x4x512 .f32) : FVec Ideal S32x4x512 .f32 :=
  mulf h (Host.divf (broadcastInDim S32x4x512 ![] bcast_S_S32x4x512 (constant S_ .f32 0x3F800000#32))
    (addf (broadcastInDim S32x4x512 ![] bcast_S_S32x4x512 (constant S_ .f32 0x3F800000#32)) (Host.exp (Host.negf h))))

/-- The shared expert's output. -/
def common : FVec Ideal S32x4x1024 .f32 :=
  Host.dotGeneral dot_S32x4x512_S512x1024_S32x4x1024_2_0_01_1_n_n none (mulf (sact (sproj x sg)) (sproj x su))
    (transpose S512x1024 [1, 0] sd transposes_S1024x512_S512x1024_1_0)

/-- The reference's result is made of these. -/
theorem res_eq (m : (ℓ : Loc nD τ sig) → Buf (Elt Ideal) ℓ) (c : Dev nD)
    (h0 : m ((c.tc : Thread nD τ).loc main_arg0) = x) (h1 : m ((c.tc : Thread nD τ).loc main_arg1) = wg)
    (h2 : m ((c.tc : Thread nD τ).loc main_arg2) = g) (h3 : m ((c.tc : Thread nD τ).loc main_arg3) = u)
    (h4 : m ((c.tc : Thread nD τ).loc main_arg4) = d) (h5 : m ((c.tc : Thread nD τ).loc main_arg5) = sg)
    (h6 : m ((c.tc : Thread nD τ).loc main_arg6) = su) (h7 : m ((c.tc : Thread nD τ).loc main_arg7) = sd) :
    res_out0 m c = addf (shapeCast S32x4x1024 (routed x g u d (comb (top (share (ex (lg x wg)))))) shapeCasts_S128x1024_S32x4x1024)
      (common x sg su sd) := by
  subst h0 h1 h2 h3 h4 h5 h6 h7
  rfl

/-- The token at row `r`. -/
abbrev tokn (r : Fin 128) (k : Fin 1024) : EReal := x (ix3 ⟨r.val / 4, by omega⟩ ⟨r.val % 4, by omega⟩ k)

theorem lg_at (r : Fin 128) (e : Fin 64) : lg x wg (ix2 r e) = ∑ k, tokn x r k * wg (ix2 e k) := by
  pointwise [lg]

theorem neg_inf : Ideal.ofBits .f32 0xFF800000#32 = ⊥ := by
  simp [Ideal.ofBits, Ideal.ieee]

theorem zero_word : Ideal.ofBits .f32 0x00000000#32 = 0 := by
  simp [Ideal.ofBits, Ideal.ieee]

theorem one_word : Ideal.ofBits .f32 0x3F800000#32 = 1 := by
  simp [Ideal.ofBits, Ideal.ieee]
  rw [← EReal.coe_mul, ← EReal.coe_one]
  congr 1
  norm_num

theorem ex_at (l : FVec Ideal S128x64 .f32) (r : Fin 128) (e : Fin 64) :
    ex l (ix2 r e) = Ideal.exp (l (ix2 r e) - Layer.rowMax fun k => l (ix2 r k)) := by
  pointwise [ex, neg_inf]
  rw [max_eq_right bot_le]
  rfl

theorem share_at (l : FVec Ideal S128x64 .f32) (r : Fin 128) (e : Fin 64) :
    share l (ix2 r e) = Ideal.div (l (ix2 r e)) (∑ k, l (ix2 r k)) := by
  pointwise [share, zero_word]

theorem norm_at (v : FVec Ideal S128x2 .f32) (r : Fin 128) (b : Fin 2) :
    norm v (ix2 r b) = Ideal.div (v (ix2 r b)) (v (ix2 r 0) + v (ix2 r 1)) := by
  pointwise [norm, zero_word, Fin.sum_univ_two]

theorem routed_at (w : FVec Ideal S128x64 .f32) (r : Fin 128) (l : Fin 1024) : routed x g u d w (ix2 r l)
    = ∑ e, Layer.expert (tokn x r) (fun f k => g (ix3 e f k)) (fun f k => u (ix3 e f k)) (fun a f => d (ix3 e a f)) l * w (ix2 r e) := by
  pointwise [routed, act, proj, one_word]
  refine Finset.sum_congr rfl fun e _ => congrArg (· * w (ix2 r e)) (Finset.sum_congr rfl fun f _ => ?_)
  rw [mul_comm]
  rfl

theorem common_at (a : Fin 32) (b : Fin 4) (l : Fin 1024) : common x sg su sd (ix3 a b l)
    = Layer.expert (fun k => x (ix3 a b k)) (fun f k => sg (ix2 f k)) (fun f k => su (ix2 f k)) (fun a f => sd (ix2 a f)) l := by
  pointwise [common, sact, sproj, one_word]
  rfl

/-- A row's place `c` moved to `k`. -/
theorem along_at (r : Fin 128) (c k : Fin 64) : Shape.Idx.along (s := S128x64) (ix2 r c) 1 k = ix2 r k := by
  funext a
  match a with
  | ⟨0, _⟩ => rfl
  | ⟨1, _⟩ => rfl

theorem top_val (p : FVec Ideal S128x64 .f32) (r : Fin 128) (b : Fin 2) :
    (top p).1 (ix2 r b) = p (ix2 r (Layer.order (fun e => p (ix2 r e)) ⟨b.val, by omega⟩)) := by
  pointwise [top, Host.topK, Host.sort2]
  simp only [along_at]
  rfl

theorem top_idx (p : FVec Ideal S128x64 .f32) (r : Fin 128) (b : Fin 2) :
    (top p).2 (ix2 r b) = BitVec.ofNat 32 (Layer.order (fun e => p (ix2 r e)) ⟨b.val, by omega⟩).val := by
  pointwise [top, Host.topK, Host.sort2]
  simp only [along_at]
  rfl

theorem pairs_row (i : IVec S128x2 32) (r : Fin 128) (b : Fin 2) :
    pairs i (ix3 r b 0) = BitVec.ofNat 32 r.val := by
  pointwise [pairs, rows]
  refine Routing.wrap_of_lt _ _ ?_
  rw [BitVec.toNat_ofNat]
  omega

theorem pairs_expert (i : IVec S128x2 32) (r : Fin 128) (b : Fin 2) (n : ℕ) (hn : n < 64) (h : i (ix2 r b) = BitVec.ofNat 32 n) :
    pairs i (ix3 r b 1) = BitVec.ofNat 32 n := by
  pointwise [pairs, rows]
  rw [h]
  refine Routing.wrap_of_lt _ _ ?_
  rw [BitVec.toNat_ofNat]
  omega

/-- The weight of an expert for a token. -/
theorem comb_at (p : FVec Ideal S128x64 .f32) (r : Fin 128) (e : Fin 64) :
    comb (top p) (ix2 r e) = Layer.weight (fun k => p (ix2 r k)) e := by
  have hl : ∀ (r' : Fin 128) (b : Fin 2),
      (ScatterDims.resultIdx? scatter_S128x64_S128x2x2_S128x2_n_01_01_2 (ix2 r' b) (pairs (top p).2) = some (ix2 r e))
        ↔ r' = r ∧ Layer.order (fun k => p (ix2 r' k)) ⟨b.val, by omega⟩ = e := fun r' b => by
    refine (Routing.scatter_lands2 scatter_S128x64_S128x2x2_S128x2_n_01_01_2 rfl rfl rfl (pairs (top p).2) r' b r e).trans ?_
    refine and_congr ?_ ?_
    · rw [show pairs (top p).2 (ValueIdx.ix3 r' b 0) = _ from pairs_row _ r' b, Layer.small_toInt _ (by omega)]
      exact ⟨fun h => Fin.ext (by exact_mod_cast h), fun h => by rw [h]⟩
    · rw [show pairs (top p).2 (ValueIdx.ix3 r' b 1) = _ from pairs_expert _ r' b _ (Fin.isLt _) (top_idx p r' b),
        Layer.small_toInt _ (by omega)]
      exact ⟨fun h => Fin.ext (by exact_mod_cast h), fun h => by rw [h]⟩
  show broadcastInDim S128x64 ![] bcast_S_S128x64 (constant (F := Ideal) S_ .f32 0x00000000#32) (ix2 r e)
    + ∑ j ∈ Finset.univ.filter (fun j => ScatterDims.resultIdx? scatter_S128x64_S128x2x2_S128x2_n_01_01_2 j (pairs (top p).2) = some (ix2 r e)),
      norm (top p).1 j = _
  rw [Finset.sum_filter, ValueIdx.sum_idx2, Finset.sum_eq_single r]
  · rw [Fin.sum_univ_two]
    have hv : ∀ b : Fin 2, norm (top p).1 (ix2 r b) = Ideal.div (p (ix2 r (Layer.order (fun k => p (ix2 r k)) ⟨b.val, by omega⟩)))
        (p (ix2 r (Layer.order (fun k => p (ix2 r k)) 0)) + p (ix2 r (Layer.order (fun k => p (ix2 r k)) 1))) := fun b => by
      rw [norm_at, top_val, top_val, top_val]
      rfl
    have hz : broadcastInDim S128x64 ![] bcast_S_S128x64 (constant (F := Ideal) S_ .f32 0x00000000#32) (ix2 r e) = (0 : EReal) :=
      zero_word
    rw [hz, zero_add]
    have h0 := (hl r 0).trans (and_iff_right rfl)
    have h1 := (hl r 1).trans (and_iff_right rfl)
    exact congrArg₂ (· + ·) ((if_congr h0 (hv 0) rfl)) ((if_congr h1 (hv 1) rfl))
  · intro r' _ hr
    exact Finset.sum_eq_zero fun b _ => if_neg fun h => hr ((hl r' b).mp h).1
  · intro h
    exact absurd (Finset.mem_univ r) h

/-- The reference's result at a token and a feature is the layer. -/
theorem res_at (m : (ℓ : Loc nD τ sig) → Buf (Elt Ideal) ℓ) (c : Dev nD)
    (h0 : m ((c.tc : Thread nD τ).loc main_arg0) = x) (h1 : m ((c.tc : Thread nD τ).loc main_arg1) = wg)
    (h2 : m ((c.tc : Thread nD τ).loc main_arg2) = g) (h3 : m ((c.tc : Thread nD τ).loc main_arg3) = u)
    (h4 : m ((c.tc : Thread nD τ).loc main_arg4) = d) (h5 : m ((c.tc : Thread nD τ).loc main_arg5) = sg)
    (h6 : m ((c.tc : Thread nD τ).loc main_arg6) = su) (h7 : m ((c.tc : Thread nD τ).loc main_arg7) = sd)
    (a : Fin 32) (b : Fin 4) (l : Fin 1024) :
    (res_out0 m c : FVec Ideal S32x4x1024 .f32) (ix3 a b l)
      = Layer.layer (fun k => x (ix3 a b k)) (fun e k => wg (ix2 e k)) (fun e f k => g (ix3 e f k)) (fun e f k => u (ix3 e f k))
          (fun e a f => d (ix3 e a f)) (fun f k => sg (ix2 f k)) (fun f k => su (ix2 f k)) (fun a f => sd (ix2 a f)) l := by
  have ht : tokn x ⟨a.val * 4 + b.val, by omega⟩ = fun k => x (ix3 a b k) := funext fun k =>
    congrArg x (congrArg₂ (fun p q => ix3 p q k) (Fin.ext (by show (a.val * 4 + b.val) / 4 = a.val; omega))
      (Fin.ext (by show (a.val * 4 + b.val) % 4 = b.val; omega)))
  have hp : (fun e => share (ex (lg x wg)) (ix2 (⟨a.val * 4 + b.val, by omega⟩ : Fin 128) e))
      = Layer.probs (fun k => x (ix3 a b k)) fun e k => wg (ix2 e k) := funext fun e => by
    rw [share_at, ← ht]
    simp only [ex_at, lg_at]
    rfl
  have hs : shapeCast S32x4x1024 (routed x g u d (comb (top (share (ex (lg x wg)))))) shapeCasts_S128x1024_S32x4x1024 (ix3 a b l)
      = routed x g u d (comb (top (share (ex (lg x wg))))) (ix2 ⟨a.val * 4 + b.val, by omega⟩ l) := by
    pointwise
  refine (congrFun (res_eq x wg g u d sg su sd m c h0 h1 h2 h3 h4 h5 h6 h7) (ix3 a b l)).trans ?_
  refine (congrArg₂ (fun p q : EReal => p + q) hs (common_at x sg su sd a b l)).trans ?_
  show _ + _ = _
  rw [add_comm, routed_at, ht]
  simp only [comb_at, hp]
  rfl

end Cert.ReferenceIdeal.Value

end
-- ==== Proof.Equation.lean ====
module

public import proofs.«01_k».proof.Proof.Out
public import proofs.«01_k».proof.Proof.RefRead
public import proofs.«01_k».proof.Defs
public import Idealize.ShloMosaic.Lib.Quiescent

/-! The reference's frame, and the equation of the two results. -/

@[expose] public section

set_option maxRecDepth 16384

noncomputable section

namespace Cert.Equation

open Idealize.ShloMosaic Idealize.ShloMosaic.TcCoe Idealize.SL.Sem

/-- The reference runs, its arguments end unchanged and, having no semaphore, it ends with every counter at zero. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- The kernel and the reference end with the same result. -/
theorem equal : Cert.algebraic_KernelIdeal_ReferenceIdeal (hKernelIdeal := Cert.KernelIdeal.Gen.facts)
    (hReferenceIdeal := Cert.ReferenceIdeal.Gen.facts) := fun m g m' g' _ hargs =>
  ⟨Cert.KernelIdeal.Value.result m, Cert.KernelIdeal.Value.run m g,
    (θ_run _ _ _).mono (fun r h c => ⟨(h c).1.trans (funext fun i => by
      obtain ⟨h0, h1, h2, h3, h4, h5, h6, h7⟩ := hargs c
      rw [← ix3_eta i]
      exact (Cert.ReferenceIdeal.Value.res_at _ _ _ _ _ _ _ _ m' c h0 h1 h2 h3 h4 h5 h6 h7 (i 0) (i 1) (i 2)).trans
        (Cert.KernelIdeal.Value.result_at m c (i 0) (i 1) (i 2)).symm), (h c).2⟩)
      (Cert.ReferenceIdeal.Value.run (F := Ideal) m' g')⟩

end Cert.Equation

end
-- ==== Proof.lean ====
/- The five claims: the three programs run, leave their arguments unchanged and end with every counter at zero; the
   idealized kernel is the kernel's own text; the kernel and the reference compute the same function over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything that the certificate claims. -/
theorem claim : Cert.Claim :=
  ⟨Cert.Kernel.Gen.facts, Cert.KernelIdeal.Gen.facts, Cert.ReferenceIdeal.Gen.facts, kernel_frame,
    fun m ρ _ => Cert.KernelIdeal.Gen.frame (F := Ideal) m ρ, Cert.Equation.reference_frame, trivial, Cert.Equation.equal⟩

end Cert.Proof

end
